-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S256x1024 : Shape := ⟨2, ![256, 1024]⟩
abbrev S_ : Shape := ⟨0, ![]⟩

abbrev nBuf : Table → Nat
  | .hbm => 3
  | .shared => 6
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | .shared, ⟨0, _⟩ => ⟨S256x1024, .f32⟩
  | .shared, ⟨1, _⟩ => ⟨S256x1024, .f32⟩
  | .shared, ⟨2, _⟩ => ⟨S256x1024, .f32⟩
  | .shared, ⟨3, _⟩ => ⟨S256x1024, .f32⟩
  | .shared, ⟨4, _⟩ => ⟨S256x1024, .f32⟩
  | .shared, ⟨5, _⟩ => ⟨S256x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev cc0_scratch4 : Ref sig .scScalar := ⟨.shared, 4, rfl⟩
abbrev cc0_scratch5 : Ref sig .scScalar := ⟨.shared, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_0 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Common.lean ====
/-
  The set-up that the proof modules share: the program as the launch theorem sees it, the resource algebra, and the rows of the table and of the
  result by blocks of 256, the unit in which the kernel moves them.
-/
module

public import proofs.«01_k».proof.Defs
public import Idealize.ShloMosaic.Lib.SparseCore.Quiescent
public import Idealize.ShloMosaic.Lib.Pipeline.Kit
public import Idealize.ShloMosaic.Lib.Tactic
public import Idealize.ShloMosaic.Lib.Writes
public import proofs.«01_k».proof.Proof.Gen.KernelIdeal

@[expose] public section

noncomputable section

namespace Cert.Proof.Embed

open Cert.KernelIdeal Cert.KernelIdeal.Gen

open Idealize.ShloMosaic
open Idealize.ShloMosaic.SparseCore (S)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its resource algebra -/

/-- The labels of the program with its pipelines, of which it has none; -/
abbrev ΛP : Labels := Pipeline.Sig Λ₀ (Fin 0) fun p => (pcfgs (F := F) p).Adm
/-- its one SparseCore call; -/
abbrev K : SparseCore.Cfg τ sig (ΛP (F := F)) 1 := sc (F := F)
/-- the bodies of the labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores that one thread waits at are distinct, none is scoped to a kernel, and no buffer of a SparseCore's shared memory is a tile task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the launch's handshakes, and beside them the counters of the kernel's own copies. -/
abbrev UU : Type := URounds (GSem nD τ sig) ℕ × Counters

local notation "𝕄" => MT nD τ sig (SparseCore.Cfg.HIx 1) (Elt F) ℕ UU ℕ

/-- The handshakes' rounds as the left factor. -/
abbrev EH : Emb (URounds (GSem nD τ sig) ℕ) (MT nD τ sig (SparseCore.Cfg.HIx 1) (Elt F) ℕ UU ℕ) := embL

/-! ## The arrays, and the blocks of their rows -/

/-- The table's array on device `d`; -/
abbrev xLoc (d : Dev nD) : Loc nD τ sig := (SparseCore.T d).loc main_arg1
/-- the result's. -/
abbrev oLoc (d : Dev nD) : Loc nD τ sig := (SparseCore.T d).loc main_v0

/-- The grid point of SparseCore `c`. -/
def coordsS (c : Fin (grid0.bound 0)) : grid0.Coords := fun | 0 => c | ⟨_ + 1, h⟩ => absurd h (Nat.not_lt.2 (Nat.le_add_left _ _))

/-- SparseCore `c`'s sequencer. -/
abbrev Sq (d : Dev nD) (c : Fin (grid0.bound 0)) : Thread nD τ := S d (c.castLE hcore0)

/-- The table as the sequencer addresses it, -/
abbrev xW : Memref sig .scScalar .hbm S8192x1024 .f32 := Memref.whole main_arg1_scs
/-- the result, -/
abbrev oW : Memref sig .scScalar .hbm S8192x1024 .f32 := Memref.whole main_v0_scs
/-- and the six buffers in its SparseCore's shared vector memory. -/
abbrev b0W : Memref sig .scScalar .shared S256x1024 .f32 := Memref.whole cc0_scratch0
abbrev b1W : Memref sig .scScalar .shared S256x1024 .f32 := Memref.whole cc0_scratch1
abbrev b2W : Memref sig .scScalar .shared S256x1024 .f32 := Memref.whole cc0_scratch2
abbrev b3W : Memref sig .scScalar .shared S256x1024 .f32 := Memref.whole cc0_scratch3
abbrev b4W : Memref sig .scScalar .shared S256x1024 .f32 := Memref.whole cc0_scratch4
abbrev b5W : Memref sig .scScalar .shared S256x1024 .f32 := Memref.whole cc0_scratch5

/-- Block `w` (counted in rows) of SparseCore `c`'s part of the table, as the body slices it; -/
abbrev xM (c : Fin (grid0.bound 0)) (w : BitVec 32) (h : ∀ a, k0_off1 (coordsS c) w a + S256x1024.size a ≤ S8192x1024.size a) : Memref sig .scScalar .hbm S256x1024 .f32 :=
  (xW).slice (Rect.unit (s := S8192x1024) (k0_off1 (coordsS c) w) S256x1024.size h) (fun _ => rfl)
/-- and of its part of the result. -/
abbrev oM (c : Fin (grid0.bound 0)) (w : BitVec 32) (h : ∀ a, k0_off1 (coordsS c) w a + S256x1024.size a ≤ S8192x1024.size a) : Memref sig .scScalar .hbm S256x1024 .f32 :=
  (oW).slice (Rect.unit (s := S8192x1024) (k0_off1 (coordsS c) w) S256x1024.size h) (fun _ => rfl)

/-- A block lies within the array. -/
theorem blk_inb (b : Fin 2 × Fin 16) : ∀ a, (![4096 * b.1.val + 256 * b.2.val, 0] : Fin 2 → Nat) a + S256x1024.size a ≤ S8192x1024.size a := by
  have h1 := b.1.isLt; have h2 := b.2.isLt
  intro a; fin_cases a <;> simp <;> omega

/-- Rows `4096 c + 256 r` to `4096 c + 256 r + 255`: the block that SparseCore `c` moves `r`-th. -/
def blkSet (b : Fin 2 × Fin 16) : Finset S8192x1024.Idx := (Rect.unit (s := S8192x1024) ![4096 * b.1.val + 256 * b.2.val, 0] S256x1024.size (blk_inb b)).set

/-- An element is in a block when its row is. -/
theorem mem_blkSet (b : Fin 2 × Fin 16) (i : S8192x1024.Idx) :
    i ∈ blkSet b ↔ 4096 * b.1.val + 256 * b.2.val ≤ (i 0).val ∧ (i 0).val < 4096 * b.1.val + 256 * b.2.val + 256 := by
  unfold blkSet
  rw [Rect.mem_set_unit]
  constructor
  · intro h; exact h 0
  · intro h a
    match a with
    | 0 => exact h
    | 1 => exact ⟨Nat.zero_le _, by have := (i 1).isLt; simpa using this⟩

/-- Two blocks have no element in common, -/
theorem blk_disjoint (b b' : Fin 2 × Fin 16) (h : b ≠ b') : Disjoint (blkSet b) (blkSet b') := by
  rw [Finset.disjoint_left]
  intro i hi hi'
  rw [mem_blkSet] at hi hi'
  refine h (Prod.ext (Fin.ext ?_) (Fin.ext ?_)) <;>
    · have := b.1.isLt; have := b.2.isLt; have := b'.1.isLt; have := b'.2.isLt; omega

/-- and the 32 of them have every element. -/
theorem blk_cover : Finset.univ.biUnion blkSet = Finset.univ := by
  ext i
  simp only [Finset.mem_biUnion, Finset.mem_univ, true_and, iff_true]
  have hi : (i 0).val < 8192 := (i 0).isLt
  refine ⟨(⟨(i 0).val / 4096, by omega⟩, ⟨(i 0).val % 4096 / 256, by omega⟩), (mem_blkSet _ _).mpr ⟨?_, ?_⟩⟩ <;> simp only <;> omega

/-- The table held whole is its 32 blocks, by SparseCore; -/
theorem x_blocks (d : Dev nD) (f : Buf (Elt F) (xLoc d)) :
    (xLoc d ↦{fullShare} f : sProp 𝕄) = bigSep Finset.univ fun c : Fin 2 => bigSep Finset.univ fun r : Fin 16 => xLoc d ↦[blkSet (c, r)]{fullShare} f := by
  rw [← BI.bigSep_univ_prod (fun b : Fin 2 × Fin 16 => (xLoc d ↦[blkSet b]{fullShare} f : sProp 𝕄)),
    ← pointsTo_biUnion (ℓ := xLoc d) Finset.univ blkSet (fun b _ b' _ h => blk_disjoint b b' h), blk_cover]
/-- and so is the result. -/
theorem o_blocks (d : Dev nD) (f : Buf (Elt F) (oLoc d)) :
    (oLoc d ↦{fullShare} f : sProp 𝕄) = bigSep Finset.univ fun c : Fin 2 => bigSep Finset.univ fun r : Fin 16 => oLoc d ↦[blkSet (c, r)]{fullShare} f := by
  rw [← BI.bigSep_univ_prod (fun b : Fin 2 × Fin 16 => (oLoc d ↦[blkSet b]{fullShare} f : sProp 𝕄)),
    ← pointsTo_biUnion (ℓ := oLoc d) Finset.univ blkSet (fun b _ b' _ h => blk_disjoint b b' h), blk_cover]

/-! ## The body's slices are these blocks -/

/-- The rectangle at the body's offset for block `r` has the block's elements; -/
theorem set_rows (c : Fin (grid0.bound 0)) (r : Fin 16) :
    (Rect.unit (s := S8192x1024) (k0_off1 (coordsS c) (BitVec.ofNat 32 (256 * r.val))) S256x1024.size (k0_off1_inb (coordsS c) r)).set = blkSet (c, r) := by
  have h := k0_off1_eq (coordsS c) r
  simp only [h]; rfl

/-- so do the body's slice of the table -/
theorem xM_set (c : Fin (grid0.bound 0)) (r : Fin 16) : (xM c (BitVec.ofNat 32 (256 * r.val)) (k0_off1_inb (coordsS c) r)).view.set = blkSet (c, r) :=
  (View.set_slice_whole _ _).trans (set_rows c r)
/-- and its slice of the result. -/
theorem oM_set (c : Fin (grid0.bound 0)) (r : Fin 16) : (oM c (BitVec.ofNat 32 (256 * r.val)) (k0_off1_inb (coordsS c) r)).view.set = blkSet (c, r) :=
  (View.set_slice_whole _ _).trans (set_rows c r)

/-- The result holding the table's contents, as values of the result's buffer. -/
abbrev asO (d : Dev nD) (f : Buf (Elt F) (xLoc d)) : Buf (Elt F) (oLoc d) := fun i => f i

/-- A block of the result written with what the same block of the table reads holds the table's contents there. -/
theorem moved (d : Dev nD) (c : Fin (grid0.bound 0)) (w : BitVec 32) (h : ∀ a, k0_off1 (coordsS c) w a + S256x1024.size a ≤ S8192x1024.size a)
    (f : Buf (Elt F) (xLoc d)) (g : Buf (Elt F) (oLoc d)) (p : S256x1024.Idx → Elt F .f32) (hp : p = (xM c w h).view.read (Elt F) f) :
    ((oM c w h).view.loc (Sq d c) ↦[(oM c w h).view.set]{fullShare} ((oM c w h).view.writes (Elt F) g [⟨Rect.whole S256x1024, p⟩]) : sProp 𝕄)
      = ((oM c w h).view.loc (Sq d c) ↦[(oM c w h).view.set]{fullShare} asO d f) := by
  subst hp
  refine pointsTo_congr fun i hi => ?_
  obtain ⟨x, -, rfl⟩ := Finset.mem_map.mp hi
  rw [← View.write_univ_eq_writes_whole, View.writes_nil]
  exact View.write_emb_of_mem (v := (oM c w h).view) g _ (Finset.mem_univ x)

end Cert.Proof.Embed

end
-- ==== Proof.Body.lean ====
/-
  The kernel's body on one SparseCore's sequencer.
-/
module

public import proofs.«01_k».proof.Proof.Common

@[expose] public section

noncomputable section

namespace Cert.Proof.Embed

open Cert.KernelIdeal Cert.KernelIdeal.Gen

open Idealize.ShloMosaic
open Idealize.ShloMosaic.SparseCore (S)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ UU ℕ

variable (m : (ℓ : Loc nD τ sig) → Buf (Elt F) ℓ) (d : Dev nD) (c : Fin (grid0.bound 0))

/-- The block of the table at row offset `w` of the SparseCore's part, at its launch contents; -/
abbrev xP (w : BitVec 32) (h : ∀ a, k0_off1 (coordsS c) w a + S256x1024.size a ≤ S8192x1024.size a) : sProp 𝕄 :=
  (xM c w h).view.loc (Sq d c) ↦[(xM c w h).view.set]{fullShare} m (xLoc d)
/-- the block of the result there, at `f`. -/
abbrev oP (w : BitVec 32) (h : ∀ a, k0_off1 (coordsS c) w a + S256x1024.size a ≤ S8192x1024.size a) (f : Buf (Elt F) (oLoc d)) : sProp 𝕄 :=
  (oM c w h).view.loc (Sq d c) ↦[(oM c w h).view.set]{fullShare} f

/-- The sixteen blocks of the SparseCore's part of the table, at the launch contents; -/
abbrev xAll : sProp 𝕄 :=
  iprop(xP m d c 0#32 (k0_off1_inb _ 0) ∗ xP m d c 256#32 (k0_off1_inb _ 1)
    ∗ xP m d c 512#32 (k0_off1_inb _ 2) ∗ xP m d c 768#32 (k0_off1_inb _ 3)
    ∗ xP m d c 1024#32 (k0_off1_inb _ 4) ∗ xP m d c 1280#32 (k0_off1_inb _ 5)
    ∗ xP m d c 1536#32 (k0_off1_inb _ 6) ∗ xP m d c 1792#32 (k0_off1_inb _ 7)
    ∗ xP m d c 2048#32 (k0_off1_inb _ 8) ∗ xP m d c 2304#32 (k0_off1_inb _ 9)
    ∗ xP m d c 2560#32 (k0_off1_inb _ 10) ∗ xP m d c 2816#32 (k0_off1_inb _ 11)
    ∗ xP m d c 3072#32 (k0_off1_inb _ 12) ∗ xP m d c 3328#32 (k0_off1_inb _ 13)
    ∗ xP m d c 3584#32 (k0_off1_inb _ 14) ∗ xP m d c 3840#32 (k0_off1_inb _ 15))
/-- the sixteen of its part of the result, at `f`; -/
abbrev oAll (f : Buf (Elt F) (oLoc d)) : sProp 𝕄 :=
  iprop(oP d c 0#32 (k0_off1_inb _ 0) f ∗ oP d c 256#32 (k0_off1_inb _ 1) f
    ∗ oP d c 512#32 (k0_off1_inb _ 2) f ∗ oP d c 768#32 (k0_off1_inb _ 3) f
    ∗ oP d c 1024#32 (k0_off1_inb _ 4) f ∗ oP d c 1280#32 (k0_off1_inb _ 5) f
    ∗ oP d c 1536#32 (k0_off1_inb _ 6) f ∗ oP d c 1792#32 (k0_off1_inb _ 7) f
    ∗ oP d c 2048#32 (k0_off1_inb _ 8) f ∗ oP d c 2304#32 (k0_off1_inb _ 9) f
    ∗ oP d c 2560#32 (k0_off1_inb _ 10) f ∗ oP d c 2816#32 (k0_off1_inb _ 11) f
    ∗ oP d c 3072#32 (k0_off1_inb _ 12) f ∗ oP d c 3328#32 (k0_off1_inb _ 13) f
    ∗ oP d c 3584#32 (k0_off1_inb _ 14) f ∗ oP d c 3840#32 (k0_off1_inb _ 15) f)
/-- the six buffers, at anything; -/
abbrev bufAll : sProp 𝕄 :=
  iprop((∃ f, (b0W).view.loc (Sq d c) ↦{fullShare} f) ∗ (∃ f, (b1W).view.loc (Sq d c) ↦{fullShare} f)
    ∗ (∃ f, (b2W).view.loc (Sq d c) ↦{fullShare} f) ∗ (∃ f, (b3W).view.loc (Sq d c) ↦{fullShare} f)
    ∗ (∃ f, (b4W).view.loc (Sq d c) ↦{fullShare} f) ∗ (∃ f, (b5W).view.loc (Sq d c) ↦{fullShare} f))
/-- the semaphore cell `k` of the pool at zero, -/
abbrev cell (k : Nat) (hk : k < 12 := by decide) : sProp 𝕄 := semVal (Sq d c, SemLoc.dma (⟨k, hk⟩ : DmaSem sig)) 0
/-- and all twelve: the six that the buffers' loads signal, then the six of their stores. -/
abbrev cellAll : sProp 𝕄 :=
  iprop(cell d c 0 ∗ cell d c 1 ∗ cell d c 2 ∗ cell d c 3 ∗ cell d c 4 ∗ cell d c 5
    ∗ cell d c 6 ∗ cell d c 7 ∗ cell d c 8 ∗ cell d c 9 ∗ cell d c 10 ∗ cell d c 11)

/-- The kernel as SparseCore `c`'s sequencer runs it. -/
abbrev kern : Prog (TpuEff nD τ sig (Elt F) Λ₀ (.scScalar (c.castLE hcore0))) PUnit :=
  cc0_copy_k (coordsS c) xW (Memref.isWhole_whole _) oW (Memref.isWhole_whole _)
    b0W (Memref.isWhole_whole _) b1W (Memref.isWhole_whole _) b2W (Memref.isWhole_whole _)
    b3W (Memref.isWhole_whole _) b4W (Memref.isWhole_whole _) b5W (Memref.isWhole_whole _)
    cc0_scratch6 cc0_scratch7 cc0_scratch8 cc0_scratch9 cc0_scratch10 cc0_scratch11
    cc0_scratch12 cc0_scratch13 cc0_scratch14 cc0_scratch15 cc0_scratch16 cc0_scratch17

/-- From the SparseCore's blocks of the table and of the result, the buffers at anything and the cells at zero, the body ends with the table's blocks
    as they were, the result's blocks at the table's contents, the buffers at anything and the cells at zero again. -/
theorem seq_run (O : CellTallies nD τ sig (SparseCore.Cfg.HIx 1)) (W : Waits sig (SparseCore.Cfg.HIx 1)) (f : Buf (Elt F) (oLoc d)) :
    (iprop(Transfers.MayWaits (Sq d c) (none : SparseCore.Cfg.HIx 1) O ∗ xAll m d c ∗ oAll d c f ∗ bufAll d c ∗ cellAll d c ∗ owes (Sq d c) O W) : sProp 𝕄)
      ⊢ wp frame (wpE (defs₀ (F := F)) 𝒱₀ (Sq d c) none) Set.univ
          (kern c)
          fun _ => iprop(xAll m d c ∗ oAll d c (asO d (m (xLoc d))) ∗ bufAll d c ∗ cellAll d c ∗ ∃ W', owes (Sq d c) O W') := by
  iintro ⟨#Hmw, ⟨Hx0, Hx1, Hx2, Hx3, Hx4, Hx5, Hx6, Hx7, Hx8, Hx9, Hx10, Hx11, Hx12, Hx13, Hx14, Hx15⟩,
    ⟨Ho0, Ho1, Ho2, Ho3, Ho4, Ho5, Ho6, Ho7, Ho8, Ho9, Ho10, Ho11, Ho12, Ho13, Ho14, Ho15⟩,
    ⟨⟨%s0, Hb0⟩, ⟨%s1, Hb1⟩, ⟨%s2, Hb2⟩, ⟨%s3, Hb3⟩, ⟨%s4, Hb4⟩, ⟨%s5, Hb5⟩⟩, ⟨Hc0, Hc1, Hc2, Hc3, Hc4, Hc5, Hc6, Hc7, Hc8, Hc9, Hc10, Hc11⟩, HO⟩
  sl_unfold [kern, cc0_copy_k]
  sl_exec
  sl_step
  isplitl [Hx0 Hx1 Hx2 Hx3 Hx4 Hx5 Hx6 Hx7 Hx8 Hx9 Hx10 Hx11 Hx12 Hx13 Hx14 Hx15]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    isplitl [Hx11]; · iexact Hx11
    isplitl [Hx12]; · iexact Hx12
    isplitl [Hx13]; · iexact Hx13
    isplitl [Hx14]; · iexact Hx14
    iexact Hx15
  -- each block of the result was written from a buffer that had just been filled from the same block of the table
  isplitl [Ho0 Ho1 Ho2 Ho3 Ho4 Ho5 Ho6 Ho7 Ho8 Ho9 Ho10 Ho11 Ho12 Ho13 Ho14 Ho15]
  · isplitl [Ho0]; · iapply (Entails.of_eq (moved d c _ _ _ _ _ ?_)) $$ Ho0; exact View.read_write_univ (v := (b0W).view) _ _
    isplitl [Ho1]; · iapply (Entails.of_eq (moved d c _ _ _ _ _ ?_)) $$ Ho1; exact View.read_write_univ (v := (b1W).view) _ _
    isplitl [Ho2]; · iapply (Entails.of_eq (moved d c _ _ _ _ _ ?_)) $$ Ho2; exact View.read_write_univ (v := (b2W).view) _ _
    isplitl [Ho3]; · iapply (Entails.of_eq (moved d c _ _ _ _ _ ?_)) $$ Ho3; exact View.read_write_univ (v := (b3W).view) _ _
    isplitl [Ho4]; · iapply (Entails.of_eq (moved d c _ _ _ _ _ ?_)) $$ Ho4; exact View.read_write_univ (v := (b4W).view) _ _
    isplitl [Ho5]; · iapply (Entails.of_eq (moved d c _ _ _ _ _ ?_)) $$ Ho5; exact View.read_write_univ (v := (b5W).view) _ _
    isplitl [Ho6]; · iapply (Entails.of_eq (moved d c _ _ _ _ _ ?_)) $$ Ho6; exact View.read_write_univ (v := (b0W).view) _ _
    isplitl [Ho7]; · iapply (Entails.of_eq (moved d c _ _ _ _ _ ?_)) $$ Ho7; exact View.read_write_univ (v := (b1W).view) _ _
    isplitl [Ho8]; · iapply (Entails.of_eq (moved d c _ _ _ _ _ ?_)) $$ Ho8; exact View.read_write_univ (v := (b2W).view) _ _
    isplitl [Ho9]; · iapply (Entails.of_eq (moved d c _ _ _ _ _ ?_)) $$ Ho9; exact View.read_write_univ (v := (b3W).view) _ _
    isplitl [Ho10]; · iapply (Entails.of_eq (moved d c _ _ _ _ _ ?_)) $$ Ho10; exact View.read_write_univ (v := (b4W).view) _ _
    isplitl [Ho11]; · iapply (Entails.of_eq (moved d c _ _ _ _ _ ?_)) $$ Ho11; exact View.read_write_univ (v := (b5W).view) _ _
    isplitl [Ho12]; · iapply (Entails.of_eq (moved d c _ _ _ _ _ ?_)) $$ Ho12; exact View.read_write_univ (v := (b0W).view) _ _
    isplitl [Ho13]; · iapply (Entails.of_eq (moved d c _ _ _ _ _ ?_)) $$ Ho13; exact View.read_write_univ (v := (b1W).view) _ _
    isplitl [Ho14]; · iapply (Entails.of_eq (moved d c _ _ _ _ _ ?_)) $$ Ho14; exact View.read_write_univ (v := (b2W).view) _ _
    iapply (Entails.of_eq (moved d c _ _ _ _ _ ?_)) $$ Ho15; exact View.read_write_univ (v := (b3W).view) _ _
  isplitl [Hb0 Hb1 Hb2 Hb3 Hb4 Hb5]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    iexists _; iexact Hb5
  isplitl [Hc0 Hc1 Hc2 Hc3 Hc4 Hc5 Hc6 Hc7 Hc8 Hc9 Hc10 Hc11]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  iexists _; iexact HO

end Cert.Proof.Embed

end
-- ==== Proof.Launch.lean ====
/-
  The launch on the two SparseCores, and the program's run: it terminates with the table in the result, both arguments as they were, and every
  semaphore at zero.
-/
module

public import proofs.«01_k».proof.Proof.Body

@[expose] public section

noncomputable section

namespace Cert.Proof.Embed

open Cert.KernelIdeal Cert.KernelIdeal.Gen

open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call passes to a SparseCore and gets back -/

/-- The SparseCore's blocks of the table, at the launch contents; -/
def tabPart (d : Dev nD) (c : Fin 2) : sProp 𝕄 := bigSep Finset.univ fun r : Fin 16 => xLoc d ↦[blkSet (c, r)]{fullShare} m (xLoc d)
/-- its blocks of the result, at `f`. -/
def resPart (d : Dev nD) (c : Fin 2) (f : Buf (Elt F) (oLoc d)) : sProp 𝕄 := bigSep Finset.univ fun r : Fin 16 => oLoc d ↦[blkSet (c, r)]{fullShare} f

instance tabPart_storable (d : Dev nD) (c : Fin 2) : Storable (upEmb : UEmb _ 𝕄) (tabPart (F := F) m d c) := by unfold tabPart; infer_instance
instance resPart_storable (d : Dev nD) (c : Fin 2) (f : Buf (Elt F) (oLoc d)) : Storable (upEmb : UEmb _ 𝕄) (resPart (F := F) d c f) := by unfold resPart; infer_instance

/-- The call's core `c` as one of the two. -/
def two (q : Fin 1) (c : Fin ((K (F := F)).nCore q)) : Fin 2 := match q, c with | 0, c => c

/-- To a SparseCore: its blocks of the table and of the result as launched. Back: the same, the result's at the table's contents. -/
def P : (K (F := F)).Pay (nD := nD) (Val := Elt F) (Name := ℕ) (U := UU) where
  st := fun q d c => iprop(tabPart m d (two q c) ∗ resPart d (two q c) (m (oLoc d)))
  dn := fun q d c => iprop(tabPart m d (two q c) ∗ resPart d (two q c) (asO d (m (xLoc d))))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The parts in the body's spelling -/

/-- Sixteen of something, one by one. -/
theorem bigSep_sixteen (Φ : Fin 16 → sProp 𝕄) : bigSep Finset.univ Φ = iprop(Φ 0 ∗ Φ 1 ∗ Φ 2 ∗ Φ 3 ∗ Φ 4 ∗ Φ 5 ∗ Φ 6 ∗ Φ 7
    ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

/-- The SparseCore's part of the table is the body's sixteen slices of it; -/
theorem tabPart_eq (d : Dev nD) (c : Fin (grid0.bound 0)) : tabPart m d c = xAll m d c := by
  unfold tabPart
  rw [bigSep_congr (Ψ := fun r : Fin 16 => xP m d c (BitVec.ofNat 32 (256 * r.val)) (k0_off1_inb (coordsS c) r)) (fun r _ => by rw [xP, xM_set]),
    bigSep_sixteen]
  rfl

/-- the same of the result. -/
theorem resPart_eq (d : Dev nD) (c : Fin (grid0.bound 0)) (f : Buf (Elt F) (oLoc d)) : resPart d c f = oAll d c f := by
  unfold resPart
  rw [bigSep_congr (Ψ := fun r : Fin 16 => oP d c (BitVec.ofNat 32 (256 * r.val)) (k0_off1_inb (coordsS c) r) f) (fun r _ => by rw [oP, oM_set]),
    bigSep_sixteen]
  rfl

/-! ## The sequencer's buffers and cells -/

/-- Cell `k` of the kernel's twelve on a thread; -/
abbrev dcell (t : Thread nD τ) (k : Fin 12) : GSem nD τ sig := (t, .dma (⟨k.val, k.isLt⟩ : DmaSem sig))
/-- the kernel's six buffers on a SparseCore. -/
abbrev bref (c : Fin τ.nSC) : Fin 6 → DevRef τ sig := ![(Proc.scScalar c).devRef cc0_scratch0, (Proc.scScalar c).devRef cc0_scratch1, (Proc.scScalar c).devRef cc0_scratch2,
  (Proc.scScalar c).devRef cc0_scratch3, (Proc.scScalar c).devRef cc0_scratch4, (Proc.scScalar c).devRef cc0_scratch5]

/-- Its cells at zero: the twelve, and the rest. -/
theorem ownSems0_S (d : Dev nD) (c : Fin (grid0.bound 0)) :
    (ownSems0 (Sq d c) : sProp 𝕄)
      = iprop(cellAll d c ∗ bigSep ((ownCells (Sq d c)) \ Finset.univ.image (dcell (Sq d c))) fun g => semVal g 0) := by
  unfold SparseCore.Cfg.ownSems0
  rw [SparseCore.bigSep_sdiff_split' (t := Finset.univ.image (dcell (Sq d c))) (Finset.image_subset_iff.mpr fun k _ =>
      mem_ownCells.mpr ⟨rfl, (show ∀ s : DmaSem sig, (SemLoc.dma s : SemLoc sig).isScoped .scScalar = true by decide) _⟩),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 12)) = {0, 1, 2, 3, 4, 5, 6, 7, 8, 9, 10, 11} by decide]
  iterate 11 rw [SparseCore.bigSep_insert' (by decide)]
  rw [bigSep_singleton]
  rfl

/-- Its buffers at anything: the six, and the rest. -/
theorem ownBufs_S (d : Dev nD) (c : Fin (grid0.bound 0)) :
    (ownBufs (Sq d c) : sProp 𝕄)
      = iprop(bufAll d c ∗ bigSep ((ownRefs (τ := τ) (.scScalar (c.castLE hcore0))) \ Finset.univ.image (bref (c.castLE hcore0)))
          fun b => iprop(∃ f, ((d, b) : Loc nD τ sig) ↦{fullShare} f)) := by
  unfold SparseCore.Cfg.ownBufs
  rw [SparseCore.bigSep_sdiff_split' (t := Finset.univ.image (bref (c.castLE hcore0))) (Finset.image_subset_iff.mpr fun k _ => by
      fin_cases k <;> exact mem_ownRefs.mpr rfl),
    SparseCore.bigSep_image_of_injOn (fun a _ b _ h => by
      revert h; generalize c.castLE hcore0 = c'; revert a b c'; decide)]
  rw [show (Finset.univ : Finset (Fin 6)) = {0, 1, 2, 3, 4, 5} by decide]
  iterate 5 rw [SparseCore.bigSep_insert' (by decide)]
  rw [bigSep_singleton]
  rfl

/-! ## The launch theorem's obligation -/

/-- What the call runs on SparseCore `c`'s sequencer is the kernel at `c`. -/
theorem defs₀_scalar (c : Fin (grid0.bound 0)) : defs₀ (F := F) (.scScalar (c.castLE hcore0)) 0 () = kern c := by
  change SparseCore.onCore hcore0 (fun c => kern c) ⟨⟩ (c.castLE hcore0) = _
  simp only [SparseCore.onCore, show (c.castLE hcore0).val < grid0.bound 0 from c.isLt, ↓reduceDIte]
  rfl

/-- The kernel on SparseCore `c`'s sequencer, from what the call passes it and the sequencer's own buffers and cells to what it gives back. -/
theorem body₀ (d : Dev nD) (c : Fin (grid0.bound 0)) (O : CellTallies nD τ sig (HIx 1)) (W : Waits sig (HIx 1)) (hO : ∀ g, O g none = 0) :
    iprop(levAts (K (F := F)).L (K (F := F)).lev ∗ emp ∗ (tabPart m d c ∗ resPart d c (m (oLoc d)))
        ∗ scopedBufs (Sq d c) ∗ scopedSems0 (Sq d c) ∗ owes (Sq d c) O W)
      ⊢ wp frame (wpE (defs₀ (F := F)) 𝒱₀ (Sq d c) none) Set.univ
          (defs₀ (F := F) (.scScalar (c.castLE hcore0)) 0 ())
          fun _ => iprop((tabPart m d c ∗ resPart d c (asO d (m (xLoc d)))) ∗ scopedBufs (Sq d c) ∗ scopedSems0 (Sq d c)
            ∗ ∃ W', ⌜∀ p ∈ W', p ∈ W ∨ p.2 = none ∨ p.2 = some (0 : Fin 1)⌝ ∗ owes (Sq d c) O W') := by
  rw [defs₀_scalar, (K (F := F)).scopedBufs_S facts d _, SparseCore.Cfg.scopedSems0_S (Val := Elt F) d _, ownSems0_S, ownBufs_S, tabPart_eq, resPart_eq, resPart_eq]
  iintro ⟨#Hlv, -, ⟨Hx, Ho⟩, ⟨⟨Hb, Hbufs⟩, Htiles⟩, ⟨⟨Hc, Hsems⟩, HtileSems⟩, HO⟩
  ihave Hmw := ((K (F := F)).mayWaits_none (thr := Sq d c) hO) $$ Hlv
  iapply (wp_wand_r Idealize.ShloMosaic.frame (wpE (defs₀ (F := F)) 𝒱₀ (Sq d c) none) Set.univ)
  isplitl [Hx Ho Hb Hc HO]
  · iapply (seq_run m d c O W _)
    isplitr; · iexact Hmw
    isplitl [Hx]; · iexact Hx
    isplitl [Ho]; · iexact Ho
    isplitl [Hb]; · iexact Hb
    isplitl [Hc]; · iexact Hc
    iexact HO
  iintro %_ ⟨Hx, Ho, Hb, Hc, %W', HO⟩
  isplitl [Hx Ho]; · isplitl [Hx] <;> iassumption
  isplitl [Hb Hbufs Htiles]
  · isplitr [Htiles]
    · isplitl [Hb] <;> iassumption
    iexact Htiles
  isplitl [Hc Hsems HtileSems]
  · isplitr [HtileSems]
    · isplitl [Hc] <;> iassumption
    iexact HtileSems
  iexists W'; isplitr
  · ipureintro; intro p _
    rcases p.2 with _ | q
    · exact .inr (.inl rfl)
    · exact .inr (.inr (congrArg some (Subsingleton.elim q 0)))
  · iexact HO

/-- The same as the launch theorem asks it. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  exact body₀ m d c O W hO

/-! ## The launch's ghost state: the handshakes' rounds and nothing else -/

/-- The launch's ghost state, -/
def u₀ : UU := (initOf (K (F := F)).hsCells (K (F := F)).hsToks, 1)

/-- and that it holds what the launch asks. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [hx, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main -/

/-- The argument that the kernel does not read. -/
abbrev aLoc (d : Dev nD) : Loc nD τ sig := (SparseCore.T d).loc main_arg0

/-- @main's arrays: the two arguments and the result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The two SparseCores' parts of the table and of the result are the two arrays. -/
theorem parts_eq (d : Dev nD) (f : Buf (Elt F) (oLoc d)) :
    (bigSep Finset.univ fun c : Fin 2 => iprop(tabPart m d c ∗ resPart d c f)) = iprop((xLoc d ↦{fullShare} m (xLoc d)) ∗ oLoc d ↦{fullShare} f) := by
  rw [bigSep_sep', x_blocks, o_blocks]; rfl

/-- So the call takes the two arrays, the result as launched, -/
theorem st_eq (d : Dev nD) : (bigSep Finset.univ fun c : Fin ((K (F := F)).nCore 0) => (P m).st 0 d c)
    = iprop((xLoc d ↦{fullShare} m (xLoc d)) ∗ oLoc d ↦{fullShare} m (oLoc d)) := parts_eq m d _
/-- and gives them back, the result at the table's contents. -/
theorem dn_eq (d : Dev nD) : (bigSep Finset.univ fun c : Fin ((K (F := F)).nCore 0) => (P m).dn 0 d c)
    = iprop((xLoc d ↦{fullShare} m (xLoc d)) ∗ oLoc d ↦{fullShare} asO d (m (xLoc d))) := parts_eq m d _

/-- What @main ends with: both arguments as launched, the result at the table's contents. -/
abbrev FIN (d : Dev nD) : sProp 𝕄 :=
  iprop((aLoc d ↦{fullShare} m (aLoc d)) ∗ (xLoc d ↦{fullShare} m (xLoc d)) ∗ oLoc d ↦{fullShare} asO d (m (xLoc d)))

/-- @main: the call, the argument that the kernel does not read kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Ho⟩, Hts, -⟩, -⟩
  iapply ((K (F := F)).wp_run (D (F := F)) 𝒱 (EH := EH) (P := P m) κ d 0) $$ [Hst Hx Ho Hb Ha Hts]
  isplitr; · iexact Hctx
  isplitl [Hst]; · iexact Hst
  isplitl [Hx Ho]
  · rw [st_eq]
    isplitl [Hx] <;> iassumption
  iintro ⟨Hst, Hdn⟩
  ihave Hdn' := (Entails.of_eq (dn_eq m d)) $$ Hdn
  icases Hdn' with ⟨Hx, Ho⟩
  imodintro
  isplitl [Hst]; · iexact Hst
  isplitr [Hb Hts]
  · isplitl [Ha]; · iexact Ha
    isplitl [Hx] <;> iassumption
  isplitl [Hb] <;> iassumption

/-- Of the final memory: both arguments as launched, the result at the table's contents. -/
def fq (d : Dev nD) (s' : Phys nD τ sig (Elt F)) : Prop :=
  s'.mem.mem (oLoc d) = asO d (m (xLoc d)) ∧ s'.mem.mem (aLoc d) = m (aLoc d) ∧ s'.mem.mem (xLoc d) = m (xLoc d)

/-- An array held whole at `f` beside the state holds `f` in it. -/
theorem agree (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- What @main ends with says so of the final memory. -/
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (agree s' _ _)) $$ [HSI Ha]
  · isplitl [Ha] <;> iassumption
  icases H with ⟨%ha, -, HSI⟩
  ihave H := (persistent_entails_right (agree s' _ _)) $$ [HSI Hx]
  · isplitl [Hx] <;> iassumption
  icases H with ⟨%hx, -, HSI⟩
  ihave H := (agree s' _ _) $$ [HSI Ho]
  · isplitl [Ho] <;> iassumption
  icases H with %ho
  ipureintro; exact ⟨ho, ha, hx⟩

/-! ## The program's run -/

/-- What the run ends in. -/
def QC : PUnit × MemSt nD τ sig (Elt F) → Prop := fun r => (∀ c : Dev nD, r.2.mem (oLoc c) = asO c (m (xLoc c)) ∧ r.2.mem (aLoc c) = m (aLoc c) ∧ r.2.mem (xLoc c) = m (xLoc c))
  ∧ r.2.sem = fun _ => 0

/-- Every execution terminates without a fault, the result holding the table, both arguments unchanged, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Embed

end
-- ==== Proof.Take.lean ====
/-
  The reference's value: to take the rows 0, 1, …, 8191 of a table of 8192 rows is the table.
-/
module

public import proofs.«01_k».proof.Proof.Gen.ReferenceIdeal
public import Idealize.ShloMosaic.Lib.ReduceAll
public import Idealize.ShloMosaic.Lib.Routing.Ops

@[expose] public section

noncomputable section

namespace Cert.Proof.Embed

open Cert.ReferenceIdeal Cert.ReferenceIdeal.Gen Idealize.ShloMosaic

/-- The row numbers, as the reference prepares them for the gather: a negative one would count from the end. -/
def rowIx : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 8192#32))) (iotaInDim S8192 32 0)

/-- A number below 8192 is not negative as a 32-bit integer, and at most 8191. -/
theorem small (n : Nat) (h : n < 8192) : IntOp.cmpi .slt (BitVec.ofNat 32 n) 0#32 = 0#1 ∧ IntOp.cmpi .sge (BitVec.ofNat 32 n) 0#32 = 1#1
    ∧ IntOp.cmpi .sle (BitVec.ofNat 32 n) 8191#32 = 1#1 := by
  have hn : (BitVec.ofNat 32 n).toNat = n := by rw [BitVec.toNat_ofNat]; omega
  have hi : (BitVec.ofNat 32 n).toInt = n := by rw [BitVec.toInt_eq_toNat_of_lt (by rw [hn]; omega), hn]
  have h0 : (0#32 : BitVec 32).toInt = 0 := by decide
  have h1 : (8191#32 : BitVec 32).toInt = 8191 := by decide
  simp only [IntOp.cmpi, BitVec.slt, BitVec.sle, hi, h0, h1]
  refine ⟨?_, ?_, ?_⟩
  · rw [decide_eq_false (by omega)]; rfl
  · rw [decide_eq_true (by omega)]; rfl
  · rw [decide_eq_true (by omega)]; rfl

/-- The row numbers are 0, 1, …, 8191. -/
theorem rowIx_apply (i : S8192.Idx) : rowIx i = BitVec.ofNat 32 (i 0).val := by
  show (if IntOp.cmpi .slt (BitVec.ofNat 32 (i 0).val) 0#32 = 1#1 then _ else BitVec.ofNat 32 (i 0).val) = _
  rw [(small _ (i 0).isLt).1, if_neg (by decide)]

/-- The same as the gather takes them, one to a row. -/
def rowIx1 : IVec S8192x1 32 := broadcastInDim S8192x1 ![0] bcast_S8192_S8192x1_0 rowIx

/-- Row `i`'s number is still `i`. -/
theorem rowIx1_apply (i : S8192x1.Idx) : rowIx1 i = BitVec.ofNat 32 (i 0).val := by
  unfold rowIx1
  exact rowIx_apply _

/-- Which row numbers are rows of the table. -/
def inRange : IVec S8192 1 :=
  Host.reduce IntOp.andi
    (andi (cmpi .sge rowIx1 (broadcastInDim S8192x1 ![] bcast_S_S8192x1 (constantI S_ 32 0#32)))
      (cmpi .sle rowIx1 (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- All are. -/
theorem inRange_apply (i : S8192.Idx) : inRange i = 1#1 := by
  refine Host.reduce_andi_one _ _ _ _ _ rfl fun j => ?_
  show IntOp.andi (IntOp.cmpi .sge (rowIx1 j) 0#32) (IntOp.cmpi .sle (rowIx1 j) 8191#32) = 1#1
  have hj := small (j 0).val (j 0).isLt
  rw [rowIx1_apply, hj.2.1, hj.2.2]; rfl

/-- The gather at these row numbers is the table. -/
theorem gather_rows {α : Type} (x : S8192x1024.Idx → α) :
    Host.gather gather_S8192x1024_S8192x1_S8192x1024_1_0_n_n_0_1_11024 x rowIx1 = x := by
  funext i
  rw [ValueIdx.eq_ix2 i]
  exact Routing.gather_row gather_S8192x1024_S8192x1_S8192x1024_1_0_n_n_0_1_11024 rfl rfl rfl rfl rfl x rowIx1 (i 0) (i 1) (i 0) (rowIx1_apply _) (by norm_num)

/-- So the reference's result, rows out of range replaced by a constant, is the table. -/
theorem take_rows {α : Type} (x z : S8192x1024.Idx → α) :
    select (broadcastInDim S8192x1024 ![0] bcast_S8192_S8192x1024_0 inRange)
      (Host.gather gather_S8192x1024_S8192x1_S8192x1024_1_0_n_n_0_1_11024 x rowIx1) z = x := by
  rw [gather_rows]
  funext i
  simp only [select, broadcastInDim, inRange_apply]
  rfl

end Cert.Proof.Embed

end
-- ==== Proof.lean ====
/-
  The certificate. The kernel copies the table to its result, so that its value is the table; the reference takes the table's rows in order, so that
  its value is the table too. Proof/Launch.lean has the kernel's run, Proof/Take.lean the reference's value; the run at the bits is the run at the
  extended reals with the other float values, both programs being the same text.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.Launch
public import proofs.«01_k».proof.Proof.Take
public import Idealize.ShloMosaic.Adequacy
public import Idealize.ShloMosaic.Init

@[expose] public section

noncomputable section

namespace Cert.Proof

open Idealize.ShloMosaic Idealize.SL.Sem

/-- The kernel at the bits runs to its end, both arguments unchanged and every semaphore at zero. -/
theorem frame_kernel : Cert.quiescent_Kernel := fun m ρ _ =>
  (θ_run Cert.KernelIdeal.defs _ _).mono (fun _ h => ⟨fun c => (h.1 c).2, h.2⟩) (Embed.run_main (F := Bits) m ρ)

/-- So does the kernel at the extended reals, -/
theorem frame_ideal : Cert.quiescent_KernelIdeal := fun m ρ _ =>
  (θ_run Cert.KernelIdeal.defs _ _).mono (fun _ h => ⟨fun c => (h.1 c).2, h.2⟩) (Embed.run_main (F := Ideal) m ρ)

/-- the reference there, -/
theorem frame_refIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and the reference at the bits. -/
theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- At the extended reals the kernel's result is the reference's: the table. -/
theorem algebraic : Cert.algebraic_KernelIdeal_ReferenceIdeal := fun m ρ m' ρ' _ hagree =>
  ⟨fun c => Embed.asO c (m (Embed.xLoc c)),
    (θ_run Cert.KernelIdeal.defs _ _).mono (fun _ h c => h.1 c) (Embed.run_main (F := Ideal) m ρ),
    (θ_run Cert.ReferenceIdeal.defs _ _).mono (fun _ h c => ⟨(h c).1.trans ((Embed.take_rows _ _).trans (hagree c).2), (h c).2⟩)
      (Cert.ReferenceIdeal.Value.run (F := Ideal) m' ρ')⟩

/-- At the bits it is the reference's bit for bit. -/
theorem bitexact : Cert.bitexact_Kernel_Reference := fun m ρ m' ρ' _ hagree =>
  ⟨fun c => Embed.asO c (m (Embed.xLoc c)),
    (θ_run Cert.KernelIdeal.defs _ _).mono (fun _ h c => h.1 c) (Embed.run_main (F := Bits) m ρ),
    (θ_run Cert.Reference.defs _ _).mono (fun _ h c => ⟨(h c).1.trans ((Embed.take_rows _ _).trans (hagree c).2), (h c).2⟩)
      (Cert.Reference.Value.run (F := Bits) m' ρ')⟩

/-- The certificate: the four frames, the idealization, and the two equalities of value. -/
theorem claim : Cert.Claim := ⟨Cert.Kernel.Gen.facts, Cert.KernelIdeal.Gen.facts, Cert.ReferenceIdeal.Gen.facts, Cert.Reference.Gen.facts,
  frame_kernel, frame_ideal, frame_refIdeal, frame_ref, trivial, algebraic, bitexact⟩

end Cert.Proof

end
